-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2684354 : Shape := ⟨2, ![2, 2684354]⟩
abbrev S2684354 : Shape := ⟨1, ![2684354]⟩
abbrev S8192 : Shape := ⟨1, ![8192]⟩
abbrev S_ : Shape := ⟨0, ![]⟩
abbrev S16 : Shape := ⟨1, ![16]⟩
abbrev S1960 : Shape := ⟨1, ![1960]⟩
abbrev S194 : Shape := ⟨1, ![194]⟩

abbrev nBuf : Table → Nat
  | .hbm => 4
  | .local .scVector .vmem => 2
  | _ => 0

abbrev bufTy : (tb : Table) → Fin (nBuf tb) → BufTy
  | .hbm, ⟨0, _⟩ => ⟨S2x2684354, .i32⟩
  | .hbm, ⟨1, _⟩ => ⟨S2684354, .f32⟩
  | .hbm, ⟨2, _⟩ => ⟨S2684354, .f32⟩
  | .hbm, ⟨3, _⟩ => ⟨S2684354, .f32⟩
  | .local .scVector .vmem, ⟨0, _⟩ => ⟨S8192, .f32⟩
  | .local .scVector .vmem, ⟨1, _⟩ => ⟨S8192, .f32⟩
  | _, _ => ⟨S2x2684354, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c83880_i32 : BitVec 32 := 83880#32
  let v2 : BitVec 32 := Scalar.muli v1 c83880_i32
  v2
@[reducible] def k0_t1_loop : Scf.Loop 32 :=
  let c0_i32_0 : BitVec 32 := 0#32
  let c10_i32 : BitVec 32 := 10#32
  let v4 : BitVec 32 := Scalar.addi c0_i32_0 c10_i32
  let c1_i32 : BitVec 32 := 1#32
  ⟨c0_i32_0, v4, c1_i32⟩
def k0_mult2 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c83880_i32 : BitVec 32 := 83880#32
  let v2 : BitVec 32 := Scalar.muli v1 c83880_i32
  let v3 : BitVec 32 := v2
  let c0_i32_0 : BitVec 32 := 0#32
  let c1_i32 : BitVec 32 := 1#32
  let arg7 : BitVec 32 := Scf.iv c0_i32_0 c1_i32 k0_t1
  let c8192_i32 : BitVec 32 := 8192#32
  let v11 : BitVec 32 := Scalar.muli arg7 c8192_i32
  let v12 : BitVec 32 := Scalar.addi v3 v11
  v12
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c83880_i32 : BitVec 32 := 83880#32
  let v2 : BitVec 32 := Scalar.muli v1 c83880_i32
  let v3 : BitVec 32 := v2
  let c0_i32_0 : BitVec 32 := 0#32
  let c1_i32 : BitVec 32 := 1#32
  let arg7 : BitVec 32 := Scf.iv c0_i32_0 c1_i32 k0_t1
  let c8192_i32 : BitVec 32 := 8192#32
  let v11 : BitVec 32 := Scalar.muli arg7 c8192_i32
  let v12 : BitVec 32 := Scalar.addi v3 v11
  let v13 : BitVec 32 := v12
  ![v13.toNat]
@[reducible] def k0_t2_loop : Scf.Loop 32 :=
  let c0_i32_8 : BitVec 32 := 0#32
  let c512_i32 : BitVec 32 := 512#32
  let v14 : BitVec 32 := Scalar.addi c0_i32_8 c512_i32
  let c1_i32_9 : BitVec 32 := 1#32
  ⟨c0_i32_8, v14, c1_i32_9⟩
def k0_off2 (k0_t2 : Fin k0_t2_loop.trips) : Fin 1 → Nat :=
  let c0_i32_8 : BitVec 32 := 0#32
  let c1_i32_9 : BitVec 32 := 1#32
  let arg8 : BitVec 32 := Scf.iv c0_i32_8 c1_i32_9 k0_t2
  let c16_i32 : BitVec 32 := 16#32
  let v15 : BitVec 32 := Scalar.muli arg8 c16_i32
  let v16 : Index := Scalar.indexCast v15
  ![v16.toNat]
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c83880_i32 : BitVec 32 := 83880#32
  let v2 : BitVec 32 := Scalar.muli v1 c83880_i32
  let v3 : BitVec 32 := v2
  let c81920_i32 : BitVec 32 := 81920#32
  let v5 : BitVec 32 := Scalar.addi v3 c81920_i32
  v5
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c83880_i32 : BitVec 32 := 83880#32
  let v2 : BitVec 32 := Scalar.muli v1 c83880_i32
  let v3 : BitVec 32 := v2
  let c81920_i32 : BitVec 32 := 81920#32
  let v5 : BitVec 32 := Scalar.addi v3 c81920_i32
  let v6 : BitVec 32 := v5
  ![v6.toNat]
@[reducible] def k0_t3_loop : Scf.Loop 32 :=
  let c0_i32_3 : BitVec 32 := 0#32
  let c123_i32 : BitVec 32 := 123#32
  let v7 : BitVec 32 := Scalar.addi c0_i32_3 c123_i32
  let c1_i32_4 : BitVec 32 := 1#32
  ⟨c0_i32_3, v7, c1_i32_4⟩
def k0_off4 (k0_t3 : Fin k0_t3_loop.trips) : Fin 1 → Nat :=
  let c0_i32_3 : BitVec 32 := 0#32
  let c1_i32_4 : BitVec 32 := 1#32
  let arg7 : BitVec 32 := Scf.iv c0_i32_3 c1_i32_4 k0_t3
  let c16_i32 : BitVec 32 := 16#32
  let v11 : BitVec 32 := Scalar.muli arg7 c16_i32
  let v12 : Index := Scalar.indexCast v11
  ![v12.toNat]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v8 : BitVec 1 := Scalar.cmpi .eq v1 c31_i32
  let v9 : BitVec 32 := Scalar.extui v8
  let c0_i32_6 : BitVec 32 := 0#32
  let v10 : BitVec 1 := Scalar.cmpi .ne v9 c0_i32_6
  v10

@[reducible] def k0_t4_loop : Scf.Loop 32 :=
  let c0_i32_8 : BitVec 32 := 0#32
  let c13_i32 : BitVec 32 := 13#32
  let v11 : BitVec 32 := Scalar.addi c0_i32_8 c13_i32
  let c1_i32_9 : BitVec 32 := 1#32
  ⟨c0_i32_8, v11, c1_i32_9⟩
def k0_off5 (k0_t4 : Fin k0_t4_loop.trips) : Fin 1 → Nat :=
  let c0_i32_8 : BitVec 32 := 0#32
  let c1_i32_9 : BitVec 32 := 1#32
  let arg7 : BitVec 32 := Scf.iv c0_i32_8 c1_i32_9 k0_t4
  let c16_i32 : BitVec 32 := 16#32
  let v12 : BitVec 32 := Scalar.muli arg7 c16_i32
  let v13 : Index := Scalar.indexCast v12
  ![v13.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x2684354 : Shape := ⟨2, ![2, 2684354]⟩
abbrev S2684354 : Shape := ⟨1, ![2684354]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2x2684354, .i32⟩
  | .hbm, ⟨1, _⟩ => ⟨S2684354, .f32⟩
  | .hbm, ⟨2, _⟩ => ⟨S2684354, .f32⟩
  | .hbm, ⟨3, _⟩ => ⟨S_, .f32⟩
  | .hbm, ⟨4, _⟩ => ⟨S2684354, .f32⟩
  | .hbm, ⟨5, _⟩ => ⟨S2684354, .i1⟩
  | .hbm, ⟨6, _⟩ => ⟨S2684354, .f32⟩
  | .hbm, ⟨7, _⟩ => ⟨S2684354, .f32⟩
  | .hbm, ⟨8, _⟩ => ⟨S_, .f32⟩
  | .hbm, ⟨9, _⟩ => ⟨S2684354, .f32⟩
  | .hbm, ⟨10, _⟩ => ⟨S2684354, .f32⟩
  | _, _ => ⟨S2x2684354, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Proof.KernelIdealValue.lean ====
/-
  What the dropout kernel leaves in its result, element by element, and the facts about one-axis windows the
  task's proof reads: a window of 8192, 1960 or 194 elements copied into the front of a scratch, sixteen lanes of a
  scratch rewritten at a time, and the front of a scratch copied out to the same window of the result.
  Everything here is about contents only; the run is in `KernelIdealTask` and `KernelIdealRun`.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen
open Idealize.ShloMosaic

variable {F : FTy → Type} [FloatOps F]

/-! ## One element of the result -/

/-- The kernel's result at one element, from the value and the mask word there: the value doubled where the mask is at
    least one half, zero elsewhere. -/
def kept (x u : F .f32) : F .f32 :=
  if FloatOps.cmpf .oge u (Scalar.ofBits .f32 0x3F000000#32) = 1#1
  then FloatOps.mulf x (Scalar.ofBits .f32 0x40000000#32) else Scalar.ofBits .f32 0x00000000#32

/-- The first loop's stored vector is `kept`, lane by lane, -/
theorem pay2_lane (x u : Vec F S16 .f32) (j : S16.Idx) : k0_pay2 x u j = kept (x j) (u j) := by
  have hc (v : FVec F S16 .f32) : shapeCast S16 v shapeCasts_S16_S16 = v :=
    funext fun i => congrArg v (Shape.reshapeEquiv_self _ i)
  simp only [k0_pay2, hc]; rfl
/-- and so are the other two loops'. -/
theorem pay3_eq (x u : Vec F S16 .f32) : k0_pay3 x u = k0_pay2 x u := rfl
theorem pay1_eq (x u : Vec F S16 .f32) : k0_pay1 x u = k0_pay2 x u := rfl

/-! ## A scratch part of the way through a vector loop -/

/-- The value scratch before trip `k` of a vector loop that began at `f`, the mask scratch at `g`: the first `16 k`
    elements done, the rest as they were. -/
def part (f g : S8192.Idx → F .f32) (k : ℕ) : S8192.Idx → F .f32 :=
  fun y => if (y 0).val < 16 * k then kept (f y) (g y) else f y

theorem part_zero (f g : S8192.Idx → F .f32) : part f g 0 = f := by
  funext y; simp [part]

theorem part_done (f g : S8192.Idx → F .f32) {k : ℕ} {y : S8192.Idx} (h : (y 0).val < 16 * k) : part f g k y = kept (f y) (g y) :=
  if_pos h

section Windows

local notation "s0W" => (Memref.whole Cert.KernelIdeal.cc0_scratch0 : Memref Cert.KernelIdeal.sig Kind.scVector Space.vmem Cert.KernelIdeal.S8192 EltTy.f32)
local notation "s1W" => (Memref.whole Cert.KernelIdeal.cc0_scratch1 : Memref Cert.KernelIdeal.sig Kind.scVector Space.vmem Cert.KernelIdeal.S8192 EltTy.f32)

/-- Storing a trip's lanes over the scratch at trip `k` is the scratch at trip `k + 1`. -/
theorem part_step (f g : S8192.Idx → F .f32) (k : ℕ) (off : Fin 1 → ℕ) (hoff : off = ![16 * k])
    (inb : ∀ a, off a + S16.size a ≤ S8192.size a) :
    ((s0W).access (Rect.unit (s := S8192) off S16.size inb)).write (Elt F) (part f g k)
        (k0_pay2 ((s0W).view.readAt (Elt F) (Rect.unit (s := S8192) off S16.size inb).toLoadRect (part f g k))
          ((s1W).view.readAt (Elt F) (Rect.unit (s := S8192) off S16.size inb).toLoadRect g)) Finset.univ
      = part f g (k + 1) := by
  subst hoff
  funext y
  by_cases hy : y ∈ (Rect.unit (s := S8192) ![16 * k] S16.size inb).set
  · rw [← Rect.map_emb_univ] at hy
    obtain ⟨j, -, rfl⟩ := Finset.mem_map.mp hy
    refine (View.write_emb_of_mem (v := (s0W).access (Rect.unit (s := S8192) ![16 * k] S16.size inb)) _ _ (Finset.mem_univ j)).trans ?_
    refine (pay2_lane _ _ j).trans ?_
    have hj : (j 0).val < 16 := (j 0).isLt
    have h0 : ((Rect.unit (s := S8192) ![16 * k] S16.size inb).emb j 0).val = 16 * k + (j 0).val := by
      rw [Rect.emb_apply]; simp
    have h1 : part f g k ((Rect.unit (s := S8192) ![16 * k] S16.size inb).emb j) = f ((Rect.unit (s := S8192) ![16 * k] S16.size inb).emb j) :=
      if_neg (by rw [h0]; omega)
    have h2 : part f g (k + 1) ((Rect.unit (s := S8192) ![16 * k] S16.size inb).emb j) = kept (f ((Rect.unit (s := S8192) ![16 * k] S16.size inb).emb j)) (g ((Rect.unit (s := S8192) ![16 * k] S16.size inb).emb j)) :=
      if_pos (by rw [h0]; omega)
    rw [h2, ← h1]; rfl
  · refine (View.write_of_not_mem (v := (s0W).access (Rect.unit (s := S8192) ![16 * k] S16.size inb)) _ _ Finset.univ ?_).trans ?_
    · intro h; exact hy ((Finset.ext_iff.mp (View.set_slice_whole cc0_scratch0 (Rect.unit (s := S8192) ![16 * k] S16.size inb)) y).mp h)
    · have hn : ¬ (16 * k ≤ (y 0).val ∧ (y 0).val < 16 * k + 16) := fun h => hy (Rect.mem_set_unit.mpr fun a => by
        obtain rfl : a = 0 := Subsingleton.elim _ _; exact h)
      unfold part
      by_cases h : (y 0).val < 16 * k
      · rw [if_pos h, if_pos (by omega)]
      · rw [if_neg h, if_neg (by omega)]

/-! ## A window fetched, worked on and written out -/

local notation "vW" => (Memref.whole Cert.KernelIdeal.main_arg1_scv : Memref Cert.KernelIdeal.sig Kind.scVector Space.hbm Cert.KernelIdeal.S2684354 EltTy.f32)
local notation "mW" => (Memref.whole Cert.KernelIdeal.main_arg2_scv : Memref Cert.KernelIdeal.sig Kind.scVector Space.hbm Cert.KernelIdeal.S2684354 EltTy.f32)
local notation "oW" => (Memref.whole Cert.KernelIdeal.main_v0_scv : Memref Cert.KernelIdeal.sig Kind.scVector Space.hbm Cert.KernelIdeal.S2684354 EltTy.f32)

variable (off sz : Fin 1 → ℕ) (inbB : ∀ a, off a + sz a ≤ S2684354.size a) (inbS : ∀ a, (![0] : Fin 1 → ℕ) a + sz a ≤ S8192.size a)

/-- The window of an array, and the front of a scratch that holds it. -/
abbrev wB : Rect S2684354 := Rect.unit (s := S2684354) off sz inbB
abbrev wS : Rect S8192 := Rect.unit (s := S8192) ![0] sz inbS

/-- The value scratch after the window of the values `V` landed in it, and the mask scratch after the mask's. -/
abbrev fetchV (V : S2684354.Idx → F .f32) (f : S8192.Idx → F .f32) : S8192.Idx → F .f32 :=
  ((s0W).slice (wS sz inbS) (fun _ => rfl)).view.write (Elt F) f (((vW).slice (wB off sz inbB) (fun _ => rfl)).view.read (Elt F) V) Finset.univ
abbrev fetchM (M : S2684354.Idx → F .f32) (g : S8192.Idx → F .f32) : S8192.Idx → F .f32 :=
  ((s1W).slice (wS sz inbS) (fun _ => rfl)).view.write (Elt F) g (((mW).slice (wB off sz inbB) (fun _ => rfl)).view.read (Elt F) M) Finset.univ
/-- The result after the front of the value scratch was copied out to the window. -/
abbrev putOut (O : S2684354.Idx → F .f32) (f : S8192.Idx → F .f32) : S2684354.Idx → F .f32 :=
  ((oW).slice (wB off sz inbB) (fun _ => rfl)).view.write (Elt F) O (((s0W).slice (wS sz inbS) (fun _ => rfl)).view.read (Elt F) f) Finset.univ

theorem fetchV_emb (V : S2684354.Idx → F .f32) (f : S8192.Idx → F .f32) (j : (⟨1, sz⟩ : Shape).Idx) :
    fetchV off sz inbB inbS V f ((wS sz inbS).emb j) = V ((wB off sz inbB).emb j) :=
  View.write_emb_of_mem (v := ((s0W).slice (wS sz inbS) (fun _ => rfl)).view) _ _ (Finset.mem_univ j)
theorem fetchM_emb (M : S2684354.Idx → F .f32) (g : S8192.Idx → F .f32) (j : (⟨1, sz⟩ : Shape).Idx) :
    fetchM off sz inbB inbS M g ((wS sz inbS).emb j) = M ((wB off sz inbB).emb j) :=
  View.write_emb_of_mem (v := ((s1W).slice (wS sz inbS) (fun _ => rfl)).view) _ _ (Finset.mem_univ j)

/-- A window fetched, its elements worked on by at least enough trips and written out: inside the window the result is
    `kept` of the arrays, and it is unchanged outside. -/
theorem putOut_in {V M O : S2684354.Idx → F .f32} {f g : S8192.Idx → F .f32} {n : ℕ} (hn : sz 0 ≤ 16 * n)
    {x : S2684354.Idx} (hx : off 0 ≤ (x 0).val ∧ (x 0).val < off 0 + sz 0) :
    putOut off sz inbB inbS O (part (fetchV off sz inbB inbS V f) (fetchM off sz inbB inbS M g) n) x = kept (V x) (M x) := by
  have hm : x ∈ (wB off sz inbB).set := Rect.mem_set_unit.mpr fun a => by
    obtain rfl : a = 0 := Subsingleton.elim _ _; exact hx
  rw [← Rect.map_emb_univ] at hm
  obtain ⟨j, -, rfl⟩ := Finset.mem_map.mp hm
  refine (View.write_emb_of_mem (v := ((oW).slice (wB off sz inbB) (fun _ => rfl)).view) _ _ (Finset.mem_univ j)).trans ?_
  have hj : (j 0).val < sz 0 := (j 0).isLt
  have h0 : ((wS sz inbS).emb j 0).val = (j 0).val := by rw [Rect.emb_apply]; simp
  refine (part_done (y := (wS sz inbS).emb j) _ _ (by rw [h0]; omega)).trans ?_
  rw [fetchV_emb, fetchM_emb]
theorem putOut_out {O : S2684354.Idx → F .f32} {f : S8192.Idx → F .f32} {x : S2684354.Idx}
    (hx : ¬ (off 0 ≤ (x 0).val ∧ (x 0).val < off 0 + sz 0)) : putOut off sz inbB inbS O f x = O x :=
  View.write_of_not_mem (v := ((oW).slice (wB off sz inbB) (fun _ => rfl)).view) _ _ Finset.univ fun h =>
    hx (Rect.mem_set_unit.mp ((Finset.ext_iff.mp (View.set_slice_whole main_v0_scv (wB off sz inbB)) x).mp h) 0)

end Windows

/-! ## Which elements a task works on -/

/-- Task `w`'s elements: the `83880` from `83880 w` on, and for the last task the `194` left at the end too. -/
def span (w : ℕ) : Finset S2684354.Idx := Finset.univ.filter fun x => min ((x 0).val / 83880) 31 = w

theorem mem_span {w : ℕ} {x : S2684354.Idx} : x ∈ span w ↔ min ((x 0).val / 83880) 31 = w := by
  simp [span]

/-- No element is two tasks'. -/
theorem span_disjoint {w w' : ℕ} (h : w ≠ w') : Disjoint (span w) (span w') :=
  Finset.disjoint_left.mpr fun _ h1 h2 => h ((mem_span.mp h1).symm.trans (mem_span.mp h2))

/-- A window inside the task's elements. -/
theorem wB_subset (off sz : Fin 1 → ℕ) (inbB : ∀ a, off a + sz a ≤ S2684354.size a) {w : ℕ}
    (hw : w < 32) (hlo : 83880 * w ≤ off 0) (hhi : off 0 + sz 0 ≤ 83880 * w + 83880 ∨ w = 31) :
    (wB off sz inbB).set ⊆ span w := fun x hx => by
  have h := Rect.mem_set_unit.mp hx 0
  rw [mem_span]
  have h1 : 83880 * w ≤ (x 0).val := hlo.trans h.1
  have h2 : w ≤ (x 0).val / 83880 := by omega
  rcases hhi with h3 | h3
  · have : (x 0).val / 83880 < w + 1 := by omega
    omega
  · omega

end Cert.Proof.KernelIdeal

end
-- ==== Proof.KernelIdealTask.lean ====
/-
  One task of the dropout kernel, as one vector subcore runs it: ten windows of 8192 elements, one of 1960, and for
  the last task one of 194 more, each copied in twice (values and mask), worked on sixteen lanes at a time and copied
  out. Stated with its value: the task's elements of the result end at `kept` of the arrays.
-/
module

public import proofs.«01_k».proof.Proof.KernelIdealValue

@[expose] public section

noncomputable section

namespace Cert.Proof.KernelIdeal

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch as the launch theorem takes it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The arrays as locations of device `d`: the indices (which the kernel does not read), the values, the mask, the result. -/
abbrev aLoc (d : Dev nD) : Loc nD τ sig := (SparseCore.T d).loc main_arg0
abbrev vLoc (d : Dev nD) : Loc nD τ sig := (SparseCore.T d).loc main_arg1
abbrev mLoc (d : Dev nD) : Loc nD τ sig := (SparseCore.T d).loc main_arg2
abbrev oLoc (d : Dev nD) : Loc nD τ sig := (SparseCore.T d).loc main_v0

local notation "vW" => (Memref.whole Cert.KernelIdeal.main_arg1_scv : Memref Cert.KernelIdeal.sig Kind.scVector Space.hbm Cert.KernelIdeal.S2684354 EltTy.f32)
local notation "mW" => (Memref.whole Cert.KernelIdeal.main_arg2_scv : Memref Cert.KernelIdeal.sig Kind.scVector Space.hbm Cert.KernelIdeal.S2684354 EltTy.f32)
local notation "oW" => (Memref.whole Cert.KernelIdeal.main_v0_scv : Memref Cert.KernelIdeal.sig Kind.scVector Space.hbm Cert.KernelIdeal.S2684354 EltTy.f32)
local notation "s0W" => (Memref.whole Cert.KernelIdeal.cc0_scratch0 : Memref Cert.KernelIdeal.sig Kind.scVector Space.vmem Cert.KernelIdeal.S8192 EltTy.f32)
local notation "s1W" => (Memref.whole Cert.KernelIdeal.cc0_scratch1 : Memref Cert.KernelIdeal.sig Kind.scVector Space.vmem Cert.KernelIdeal.S8192 EltTy.f32)

variable [FloatOps F]

section Task

variable (d : Dev nD) (L : grid0.Coords)

abbrev cV (L : grid0.Coords) : Fin τ.nSC := (L 0).castLE hcore0
abbrev jV (L : grid0.Coords) : Fin τ.nSub := (L 1).castLE hsub0
/-- The task's number, as the kernel computes it. -/
abbrev wid (L : grid0.Coords) : ℕ := 2 * (L 1).val + (L 0).val
/-- The thread that runs it. -/
abbrev me : Thread nD τ := V d (cV L) (jV L)

theorem wid_lt : wid L < 32 := by
  have h0 : (L 0).val < 2 := (L 0).isLt
  have h1 : (L 1).val < 16 := (L 1).isLt
  unfold wid; omega

/-! ## One copy and its wait -/

/-- A copy on one of the thread's own counters and the wait for it, next to each other: the source as it was, the
    destination with what was read written over it. -/
theorem copy_run {sp sp' : Space} {s : Shape} {src : Memref sig .scVector sp s .f32} {dst : Memref sig .scVector sp' s .f32}
    {sem : DmaSem sig} {hsrc hsrc' : src.view.WordExact} {hdst hdst' : dst.view.WordExact}
    {hsem : DmaTarget.Typed (nD := nD) sp (.dma sem) (.here dst : DmaTarget nD τ sig (me d L).2 sp' s .f32)}
    {O : CellTallies nD τ sig (HIx 1)} {Ss : Finset (Idx (src.view.loc (me d L)))} {Sd : Finset (Idx (dst.view.loc (me d L)))}
    {fs : Buf (Elt F) (src.view.loc (me d L))} {fd : Buf (Elt F) (dst.view.loc (me d L))}
    {k : PUnit → Prog (TpuEff nD τ sig (Elt F) Λ₀ (me d L).2) PUnit} {Q : PUnit → sProp 𝕄}
    (hSs : src.view.set ⊆ Ss) (hSd : dst.view.set ⊆ Sd) (hpos : 0 < s.numel) :
    iprop(Transfers.MayWaits (me d L) (none : HIx 1) O ∗ (src.view.loc (me d L) ↦[Ss]{fullShare} fs) ∗ (dst.view.loc (me d L) ↦[Sd]{fullShare} fd)
        ∗ semVal (me d L, SemLoc.dma sem) 0 ∗ ∃ W, owes (me d L) O W)
      ⊢ iprop((iprop((src.view.loc (me d L) ↦[Ss]{fullShare} fs)
            ∗ (dst.view.loc (me d L) ↦[Sd]{fullShare} (dst.view.write (Elt F) fd (src.view.read (Elt F) fs) Finset.univ))
            ∗ semVal (me d L, SemLoc.dma sem) 0 ∗ ∃ W, owes (me d L) O W)
          -∗ wp frame (wpE (defs₀ (F := F)) 𝒱₀ (me d L) none) Set.univ (k ⟨⟩) Q)
        -∗ wp frame (wpE (defs₀ (F := F)) 𝒱₀ (me d L) none) Set.univ
            (.op (.enqueueDma src (.here dst) (.dma sem) hsrc hdst hsem) fun _ => .op (.waitDma2 sem src dst hsrc' hdst') k) Q) := by
  iintro ⟨Hmw, Hs, Hd, Hv, %W, HO⟩ Hk
  ihave Hs' := (pointsTo_split_subset (ℓ := src.view.loc (me d L)) hSs).1 $$ Hs
  icases Hs' with ⟨Hs, Hrest⟩
  iapply (Transfers.wp_dmaLocal countersEmb 𝒱₀ (me d L) none (none : HIx 1) (dst.view.dmaCredit) rfl (View.dmaCredit_pos _ hpos) hSd) $$ [Hs Hd Hv]
  · isplitl [Hs]; · iexact Hs
    isplitl [Hd]; · iexact Hd
    iexact Hv
  iintro Hfl
  ihave Hmw' := (Transfers.MayWaits.elim (SemLoc.dma sem)) $$ Hmw
  iapply (Transfers.wp_waitLocalO countersEmb 𝒱₀ (me d L) none (none : HIx 1) rfl) $$ [Hfl HO Hmw']
  · isplitl [Hfl]; · iexact Hfl
    isplitl [HO]; · iexact HO
    iexact Hmw'
  iintro ⟨⟨Hd, Hs⟩, Hv, HO⟩
  ihave Hs' := (pointsTo_split_subset (ℓ := src.view.loc (me d L)) hSs).2 $$ [Hs Hrest]
  · isplitl [Hs]; · iexact Hs
    iexact Hrest
  iapply Hk
  isplitl [Hs']; · iexact Hs'
  isplitl [Hd]; · iexact Hd
  isplitl [Hv]; · iexact Hv
  iexists _; iexact HO

/-! ## One vector loop -/

/-- The value scratch at `f`, and the mask scratch at `g`. -/
abbrev s0Pts (f : S8192.Idx → F .f32) : sProp 𝕄 := (s0W).view.loc (me d L) ↦{fullShare} f
abbrev s1Pts (g : S8192.Idx → F .f32) : sProp 𝕄 := (s1W).view.loc (me d L) ↦{fullShare} g

/-- A trip: sixteen lanes of the two scratches loaded and the value scratch's rewritten. -/
theorem trip_run (f g : S8192.Idx → F .f32) (k : ℕ) (off : Fin 1 → ℕ) (hoff : off = ![16 * k])
    (inb : ∀ a, off a + S16.size a ≤ S8192.size a)
    {h0 h2 : (s0W).view.LoadsAt (Rect.unit (s := S8192) off S16.size inb).toLoadRect}
    {h1 : (s1W).view.LoadsAt (Rect.unit (s := S8192) off S16.size inb).toLoadRect}
    {hx : ((s0W).access (Rect.unit (s := S8192) off S16.size inb)).Stores Finset.univ}
    {hm : (Finset.univ : Finset (Rect.unit (s := S8192) off S16.size inb).shape.Idx) = Finset.univ
      ∨ ∀ a, (Rect.unit (s := S8192) off S16.size inb).stride a = 1} :
    iprop(s0Pts d L (part f g k) ∗ s1Pts d L g)
      ⊢ wp frame (wpE (defs₀ (F := F)) 𝒱₀ (me d L) none) Set.univ
          (.op (.load s0W (Rect.unit (s := S8192) off S16.size inb).toLoadRect h0) fun a =>
            .op (.load s1W (Rect.unit (s := S8192) off S16.size inb).toLoadRect h1) fun b =>
              .op (.load s0W (Rect.unit (s := S8192) off S16.size inb).toLoadRect h2) fun _ =>
                .op (.store s0W (Rect.unit (s := S8192) off S16.size inb) (k0_pay2 a b) Finset.univ hx hm) fun _ =>
                  .ret ⟨⟩)
          fun _ : PUnit => (iprop(s0Pts d L (part f g (k + 1)) ∗ s1Pts d L g) : sProp 𝕄) := by
  iintro ⟨H0, H1⟩
  iapply (wp_load 𝒱₀ (me d L) none Set.univ (m := s0W) (S := Finset.univ) (Finset.subset_univ _)) $$ H0; iintro H0
  iapply (wp_load 𝒱₀ (me d L) none Set.univ (m := s1W) (S := Finset.univ) (Finset.subset_univ _)) $$ H1; iintro H1
  iapply (wp_load 𝒱₀ (me d L) none Set.univ (m := s0W) (S := Finset.univ) (Finset.subset_univ _)) $$ H0; iintro H0
  iapply (wp_store 𝒱₀ (me d L) none Set.univ (m := s0W) (r := Rect.unit (s := S8192) off S16.size inb) (Mk := Finset.univ) (S := Finset.univ) (Finset.subset_univ _)) $$ H0; iintro H0
  rw [wp_ret]; imodintro
  isplitl [H0]
  · iapply (Entails.of_eq (congrArg (s0Pts (F := F) d L) (part_step f g k off hoff inb))) $$ H0
  · iexact H1

/-- A counted loop whose trip `k` is a trip at lanes `16 k` takes the scratch through all its trips. -/
theorem loop_run (l : Scf.Loop 32) (hok : l.OK) (body : Fin l.trips → Unit → Prog (TpuEff nD τ sig (Elt F) Λ₀ (me d L).2) Unit)
    (f g : S8192.Idx → F .f32)
    (hbody : ∀ k : Fin l.trips, iprop(s0Pts d L (part f g k.val) ∗ s1Pts d L g)
      ⊢ wp frame (wpE (defs₀ (F := F)) 𝒱₀ (me d L) none) Set.univ (body k ())
          fun _ : Unit => (iprop(s0Pts d L (part f g (k.val + 1)) ∗ s1Pts d L g) : sProp 𝕄)) :
    iprop(s0Pts d L f ∗ s1Pts d L g)
      ⊢ wp frame (wpE (defs₀ (F := F)) 𝒱₀ (me d L) none) Set.univ (Scf.Loop.for l hok () body)
          fun _ : Unit => (iprop(s0Pts d L (part f g l.trips) ∗ s1Pts d L g) : sProp 𝕄) := by
  iintro H
  iapply (Scf.wp_for frame (wpE (defs₀ (F := F)) 𝒱₀ (me d L) none) Set.univ l.lb l.ub l.st hok () body
    (fun k _ => iprop(s0Pts d L (part f g k) ∗ s1Pts d L g)) (fun k _ => hbody k))
  isplitl [H]
  · rw [part_zero]; iexact H
  · iintro %_ H; iexact H

/-! ## One window: two copies in, the loop, one copy out -/

/-- The task's elements of the values and of the mask at their launch contents; of the result at `O`. -/
abbrev vPts (V : S2684354.Idx → F .f32) : sProp 𝕄 := (vW).view.loc (me d L) ↦[span (wid L)]{fullShare} V
abbrev mPts (M : S2684354.Idx → F .f32) : sProp 𝕄 := (mW).view.loc (me d L) ↦[span (wid L)]{fullShare} M
abbrev oPts (O : S2684354.Idx → F .f32) : sProp 𝕄 := (oW).view.loc (me d L) ↦[span (wid L)]{fullShare} O
abbrev semZ (q : DmaSem sig) : sProp 𝕄 := semVal (me d L, SemLoc.dma q) 0
abbrev owesS (O : CellTallies nD τ sig (HIx 1)) : sProp 𝕄 := iprop(∃ W : Waits sig (HIx 1), owes (me d L) O W)

/-- A window taken through the two scratches: the result's elements in it end at `kept` of the arrays, the others as
    they were, everything else given back. -/
theorem window_run (off sz : Fin 1 → ℕ) (inbB : ∀ a, off a + sz a ≤ S2684354.size a) (inbS : ∀ a, (![0] : Fin 1 → ℕ) a + sz a ≤ S8192.size a)
    (hsub : (wB off sz inbB).set ⊆ span (wid L)) (hpos : 0 < (⟨1, sz⟩ : Shape).numel) (n : ℕ)
    (V M O : S2684354.Idx → F .f32) (f g : S8192.Idx → F .f32) (Ow : CellTallies nD τ sig (HIx 1)) {qA qB qC : DmaSem sig}
    (lp : Prog (TpuEff nD τ sig (Elt F) Λ₀ (me d L).2) Unit)
    (hlp : ∀ f g : S8192.Idx → F .f32, iprop(s0Pts d L f ∗ s1Pts d L g)
      ⊢ wp frame (wpE (defs₀ (F := F)) 𝒱₀ (me d L) none) Set.univ lp
          fun _ : Unit => (iprop(s0Pts d L (part f g n) ∗ s1Pts d L g) : sProp 𝕄))
    (k : PUnit → Prog (TpuEff nD τ sig (Elt F) Λ₀ (me d L).2) PUnit) (Q : PUnit → sProp 𝕄) :
    iprop(Transfers.MayWaits (me d L) (none : HIx 1) Ow ∗ vPts d L V ∗ mPts d L M ∗ oPts d L O ∗ s0Pts d L f ∗ s1Pts d L g
        ∗ semZ d L qA ∗ semZ d L qB ∗ semZ d L qC ∗ owesS d L Ow)
      ⊢ iprop((iprop(vPts d L V ∗ mPts d L M
            ∗ oPts d L (putOut off sz inbB inbS O (part (fetchV off sz inbB inbS V f) (fetchM off sz inbB inbS M g) n))
            ∗ (∃ f', s0Pts d L f') ∗ (∃ g', s1Pts d L g') ∗ semZ d L qA ∗ semZ d L qB ∗ semZ d L qC ∗ owesS d L Ow)
          -∗ wp frame (wpE (defs₀ (F := F)) 𝒱₀ (me d L) none) Set.univ (k ⟨⟩) Q)
        -∗ wp frame (wpE (defs₀ (F := F)) 𝒱₀ (me d L) none) Set.univ
          (.op (.enqueueDma ((vW).slice (wB off sz inbB) (fun _ => rfl)) (.here ((s0W).slice (wS sz inbS) (fun _ => rfl))) (.dma qA)
              (View.wordExact_bits rfl) (View.wordExact_bits rfl) ⟨Or.inl rfl, trivial⟩) fun _ =>
            .op (.waitDma2 qA ((vW).slice (wB off sz inbB) (fun _ => rfl)) ((s0W).slice (wS sz inbS) (fun _ => rfl))
              (View.wordExact_bits rfl) (View.wordExact_bits rfl)) fun _ =>
            .op (.enqueueDma ((mW).slice (wB off sz inbB) (fun _ => rfl)) (.here ((s1W).slice (wS sz inbS) (fun _ => rfl))) (.dma qB)
              (View.wordExact_bits rfl) (View.wordExact_bits rfl) ⟨Or.inl rfl, trivial⟩) fun _ =>
            .op (.waitDma2 qB ((mW).slice (wB off sz inbB) (fun _ => rfl)) ((s1W).slice (wS sz inbS) (fun _ => rfl))
              (View.wordExact_bits rfl) (View.wordExact_bits rfl)) fun _ =>
            lp >>= fun _ =>
            .op (.enqueueDma ((s0W).slice (wS sz inbS) (fun _ => rfl)) (.here ((oW).slice (wB off sz inbB) (fun _ => rfl))) (.dma qC)
              (View.wordExact_bits rfl) (View.wordExact_bits rfl) ⟨Or.inl rfl, trivial⟩) fun _ =>
            .op (.waitDma2 qC ((s0W).slice (wS sz inbS) (fun _ => rfl)) ((oW).slice (wB off sz inbB) (fun _ => rfl))
              (View.wordExact_bits rfl) (View.wordExact_bits rfl)) k) Q) := by
  have hv : ((vW).slice (wB off sz inbB) (fun _ => rfl)).view.set ⊆ span (wid L) :=
    (View.set_slice_whole main_arg1_scv (wB off sz inbB)).trans_subset hsub
  have hm : ((mW).slice (wB off sz inbB) (fun _ => rfl)).view.set ⊆ span (wid L) :=
    (View.set_slice_whole main_arg2_scv (wB off sz inbB)).trans_subset hsub
  have ho : ((oW).slice (wB off sz inbB) (fun _ => rfl)).view.set ⊆ span (wid L) :=
    (View.set_slice_whole main_v0_scv (wB off sz inbB)).trans_subset hsub
  iintro ⟨#Hmw, Hv, Hm, Ho, H0, H1, HA, HB, HC, HO⟩ Hk
  iapply (copy_run (F := F) d L (fs := V) (fd := f) hv (Finset.subset_univ _) hpos) $$ [Hv H0 HA HO]
  · isplitr; · iexact Hmw
    isplitl [Hv]; · iexact Hv
    isplitl [H0]; · iexact H0
    isplitl [HA]; · iexact HA
    iexact HO
  iintro ⟨Hv, H0, HA, HO⟩
  iapply (copy_run (F := F) d L (fs := M) (fd := g) hm (Finset.subset_univ _) hpos) $$ [Hm H1 HB HO]
  · isplitr; · iexact Hmw
    isplitl [Hm]; · iexact Hm
    isplitl [H1]; · iexact H1
    isplitl [HB]; · iexact HB
    iexact HO
  iintro ⟨Hm, H1, HB, HO⟩
  rw [wp_bind]
  iapply (wp_wand_r Idealize.ShloMosaic.frame (wpE (defs₀ (F := F)) 𝒱₀ (me d L) none) Set.univ)
  isplitl [H0 H1]
  · iapply (hlp (fetchV off sz inbB inbS V f) (fetchM off sz inbB inbS M g))
    isplitl [H0]; · iexact H0
    iexact H1
  iintro %_ ⟨H0, H1⟩
  iapply (copy_run (F := F) d L (fs := part (fetchV off sz inbB inbS V f) (fetchM off sz inbB inbS M g) n) (fd := O) (Finset.subset_univ _) ho hpos) $$ [H0 Ho HC HO]
  · isplitr; · iexact Hmw
    isplitl [H0]; · iexact H0
    isplitl [Ho]; · iexact Ho
    isplitl [HC]; · iexact HC
    iexact HO
  iintro ⟨H0, Ho, HC, HO⟩
  iapply Hk
  isplitl [Hv]; · iexact Hv
  isplitl [Hm]; · iexact Hm
  isplitl [Ho]; · iexact Ho
  isplitl [H0]; · iexists _; iexact H0
  isplitl [H1]; · iexists _; iexact H1
  isplitl [HA]; · iexact HA
  isplitl [HB]; · iexact HB
  isplitl [HC]; · iexact HC
  iexact HO

/-! ## How far the task has come -/

/-- The result from element `b` to element `e` holds what the kernel leaves there. -/
def DoneTo (V M : S2684354.Idx → F .f32) (b e : ℕ) (O : S2684354.Idx → F .f32) : Prop :=
  ∀ x : S2684354.Idx, b ≤ (x 0).val → (x 0).val < e → O x = kept (V x) (M x)

/-- The window that begins where the finished elements end adds its elements to them. -/
theorem DoneTo.put {V M O : S2684354.Idx → F .f32} {b e e' : ℕ} (h : DoneTo V M b e O) {off sz : Fin 1 → ℕ}
    (inbB : ∀ a, off a + sz a ≤ S2684354.size a) (inbS : ∀ a, (![0] : Fin 1 → ℕ) a + sz a ≤ S8192.size a)
    (hoff : off 0 = e) (he : e' = e + sz 0) {n : ℕ} (hn : sz 0 ≤ 16 * n) (f g : S8192.Idx → F .f32) :
    DoneTo V M b e' (putOut off sz inbB inbS O (part (fetchV off sz inbB inbS V f) (fetchM off sz inbB inbS M g) n)) := by
  intro x hb hx
  by_cases hw : off 0 ≤ (x 0).val ∧ (x 0).val < off 0 + sz 0
  · exact putOut_in off sz inbB inbS hn hw
  · exact (putOut_out off sz inbB inbS hw).trans (h x hb (by omega))

/-- All of a task's elements done: the result there is what the kernel leaves. -/
theorem oPts_done {V M O : S2684354.Idx → F .f32} {e : ℕ} (h : DoneTo V M (83880 * wid L) e O)
    (he : 83880 * wid L + 83880 ≤ e) (hl : wid L = 31 → 2684354 ≤ e) :
    oPts (F := F) d L O = oPts d L fun x => kept (V x) (M x) :=
  pointsTo_congr (ℓ := (oW).view.loc (me d L)) fun x hx => by
    have hs : min ((x 0).val / 83880) 31 = wid L := mem_span.mp hx
    have hx' : (x 0).val < 2684354 := (x 0).isLt
    have hw := wid_lt L
    refine h x (by omega) ?_
    by_cases h31 : wid L = 31
    · exact Nat.lt_of_lt_of_le hx' (hl h31)
    · omega

/-! ## The whole task -/

theorem trips1 : k0_t1_loop.trips = 10 := by decide
theorem trips2 : k0_t2_loop.trips = 512 := by decide
theorem trips3 : k0_t3_loop.trips = 123 := by decide
theorem trips4 : k0_t4_loop.trips = 13 := by decide

/-- The kernel's condition on its last branch is that the task is the last one. -/
theorem last_iff : ∀ L : grid0.Coords, k0_cond1 L = 1#1 ↔ wid L = 31 := by decide +kernel

/-- The windows' loop before trip `k`: `8192 k` elements done. -/
def inv (V M : S2684354.Idx → F .f32) (Ow : CellTallies nD τ sig (HIx 1)) (k : ℕ) (_ : Unit) : sProp 𝕄 :=
  iprop(Transfers.MayWaits (me d L) (none : HIx 1) Ow ∗ ∃ O, ⌜DoneTo V M (83880 * wid L) (83880 * wid L + 8192 * k) O⌝ ∗ vPts d L V ∗ mPts d L M ∗ oPts d L O
    ∗ (∃ f, s0Pts d L f) ∗ (∃ g, s1Pts d L g)
    ∗ semZ d L cc0_scoped0.sem ∗ semZ d L cc0_scoped1.sem ∗ semZ d L cc0_scoped2.sem ∗ owesS d L Ow)

/-- A trip of the windows' loop: eight thousand elements more done. -/
theorem windows_trip (V M : S2684354.Idx → F .f32) (Ow : CellTallies nD τ sig (HIx 1)) (k : Fin k0_t1_loop.trips) :
    inv d L V M Ow k.val ()
      ⊢ wp frame (wpE (defs₀ (F := F)) 𝒱₀ (me d L) none) Set.univ
          (k0_t1_body L vW (Memref.isWhole_whole _) mW (Memref.isWhole_whole _) oW (Memref.isWhole_whole _)
            s0W (Memref.isWhole_whole _) s1W (Memref.isWhole_whole _)
            cc0_scoped0 cc0_scoped1 cc0_scoped2 cc0_scoped3 cc0_scoped4 cc0_scoped5 cc0_scoped6 cc0_scoped7 cc0_scoped8 k ())
          (inv d L V M Ow (k.val + 1)) := by
  have hw := wid_lt L
  have hwd : wid L = 2 * (L 1).val + (L 0).val := rfl
  have hk : k.val < 10 := trips1 ▸ k.isLt
  have hoff1 : k0_off1 L k 0 = 83880 * wid L + 8192 * k.val := by rw [k0_off1_eq]; simp; omega
  unfold inv k0_t1_body
  simp only [Prog.lift, Prog.bind_assoc, Prog.bind_op, Prog.bind_ret, Prog.pure_eq_ret]
  iintro ⟨#Hmw, %O1, %hO1, Hv, Hm, Ho, ⟨%f, H0⟩, ⟨%g, H1⟩, Q0, Q1, Q2, HO⟩
  iapply (window_run d L (k0_off1 L k) S8192.size (k0_off1_inb L k) inb_S8192_S8192_0
    (wB_subset _ _ _ hw (by omega) (.inl (by rw [hoff1]; show _ + 8192 ≤ _; omega))) (by decide) k0_t2_loop.trips V M O1 f g Ow _
    (fun f g => loop_run d L k0_t2_loop k0_t2_ok _ f g fun j => by
      unfold k0_t2_body
      simp only [Prog.lift, Prog.bind_op, Prog.bind_ret, Prog.pure_eq_ret]
      exact trip_run d L f g j.val _ (k0_off2_eq j) (k0_off2_inb j))) $$ [Hv Hm Ho H0 H1 Q0 Q1 Q2 HO]
  · isplitr; · iexact Hmw
    isplitl [Hv]; · iexact Hv
    isplitl [Hm]; · iexact Hm
    isplitl [Ho]; · iexact Ho
    isplitl [H0]; · iexact H0
    isplitl [H1]; · iexact H1
    isplitl [Q0]; · iexact Q0
    isplitl [Q1]; · iexact Q1
    isplitl [Q2]; · iexact Q2
    iexact HO
  iintro ⟨Hv, Hm, Ho, H0, H1, Q0, Q1, Q2, HO⟩
  rw [wp_ret]; imodintro
  isplitr; · iexact Hmw
  iexists _
  isplitr
  rotate_left
  · isplitl [Hv]; · iexact Hv
    isplitl [Hm]; · iexact Hm
    isplitl [Ho]; · iexact Ho
    isplitl [H0]; · iexact H0
    isplitl [H1]; · iexact H1
    isplitl [Q0]; · iexact Q0
    isplitl [Q1]; · iexact Q1
    isplitl [Q2]; · iexact Q2
    iexact HO
  · ipureintro
    exact hO1.put _ _ hoff1 (by show _ = _ + 8192; omega) (by rw [trips2]; decide) f g

/-- The task, from its elements of the three arrays, its scratches and its nine counters at zero, to the same with its
    elements of the result at `kept` of the arrays. -/
theorem task_run (V M O : S2684354.Idx → F .f32) (Ow : CellTallies nD τ sig (HIx 1)) :
    iprop(Transfers.MayWaits (me d L) (none : HIx 1) Ow ∗ vPts d L V ∗ mPts d L M ∗ oPts d L O
        ∗ (∃ f, s0Pts d L f) ∗ (∃ g, s1Pts d L g)
        ∗ (semZ d L cc0_scoped0.sem ∗ semZ d L cc0_scoped1.sem ∗ semZ d L cc0_scoped2.sem ∗ semZ d L cc0_scoped3.sem
          ∗ semZ d L cc0_scoped4.sem ∗ semZ d L cc0_scoped5.sem ∗ semZ d L cc0_scoped6.sem ∗ semZ d L cc0_scoped7.sem
          ∗ semZ d L cc0_scoped8.sem) ∗ owesS d L Ow)
      ⊢ wp frame (wpE (defs₀ (F := F)) 𝒱₀ (me d L) none) Set.univ
          (cc0_dropout_k L vW (Memref.isWhole_whole _) mW (Memref.isWhole_whole _) oW (Memref.isWhole_whole _)
            s0W (Memref.isWhole_whole _) s1W (Memref.isWhole_whole _)
            cc0_scoped0 cc0_scoped1 cc0_scoped2 cc0_scoped3 cc0_scoped4 cc0_scoped5 cc0_scoped6 cc0_scoped7 cc0_scoped8)
          fun _ => iprop(vPts d L V ∗ mPts d L M ∗ oPts d L (fun x => kept (V x) (M x))
            ∗ (∃ f, s0Pts d L f) ∗ (∃ g, s1Pts d L g)
            ∗ (semZ d L cc0_scoped0.sem ∗ semZ d L cc0_scoped1.sem ∗ semZ d L cc0_scoped2.sem ∗ semZ d L cc0_scoped3.sem
              ∗ semZ d L cc0_scoped4.sem ∗ semZ d L cc0_scoped5.sem ∗ semZ d L cc0_scoped6.sem ∗ semZ d L cc0_scoped7.sem
              ∗ semZ d L cc0_scoped8.sem) ∗ owesS d L Ow) := by
  have hw := wid_lt L
  have hwd : wid L = 2 * (L 1).val + (L 0).val := rfl
  have hoff3 : k0_off3 L 0 = 83880 * wid L + 81920 := by rw [k0_off3_eq]; simp; omega
  simp only [cc0_dropout_k_eq_skeleton]; unfold cc0_dropout_k_skel
  simp only [k0_part2_eq_skeleton]; unfold k0_part2_skel
  simp only [Prog.lift, Prog.bind_assoc, Prog.bind_op, Prog.bind_ret, Prog.pure_eq_ret]
  iintro ⟨#Hmw, Hv, Hm, Ho, H0, H1, ⟨Q0, Q1, Q2, Q3, Q4, Q5, Q6, Q7, Q8⟩, HO⟩
  rw [wp_bind]
  iapply (wp_wand_r Idealize.ShloMosaic.frame (wpE (defs₀ (F := F)) 𝒱₀ (me d L) none) Set.univ)
  isplitl [Hv Hm Ho H0 H1 Q0 Q1 Q2 HO]
  · iapply (Scf.wp_for frame (wpE (defs₀ (F := F)) 𝒱₀ (me d L) none) Set.univ k0_t1_loop.lb k0_t1_loop.ub k0_t1_loop.st k0_t1_ok () _
      (inv d L V M Ow) (fun k _ => windows_trip d L V M Ow k))
    isplitl
    · unfold inv
      isplitr; · iexact Hmw
      iexists O
      isplitr
      · ipureintro; exact fun x h1 h2 => absurd h2 (by omega)
      isplitl [Hv]; · iexact Hv
      isplitl [Hm]; · iexact Hm
      isplitl [Ho]; · iexact Ho
      isplitl [H0]; · iexact H0
      isplitl [H1]; · iexact H1
      isplitl [Q0]; · iexact Q0
      isplitl [Q1]; · iexact Q1
      isplitl [Q2]; · iexact Q2
      iexact HO
    · iintro %_ H; iexact H
  unfold inv
  iintro %_ ⟨-, %O1, %hO1, Hv, Hm, Ho, ⟨%f, H0⟩, ⟨%g, H1⟩, Q0, Q1, Q2, HO⟩
  rw [show Scf.trips k0_t1_loop.lb k0_t1_loop.ub k0_t1_loop.st = 10 from trips1] at hO1
  iapply (window_run d L (k0_off3 L) S1960.size (k0_off3_inb L) inb_S8192_S1960_0
    (wB_subset _ _ _ hw (by omega) (.inl (by rw [hoff3]; show _ + 1960 ≤ _; omega))) (by decide) k0_t3_loop.trips V M O1 f g Ow _
    (fun f g => loop_run d L k0_t3_loop k0_t3_ok _ f g fun j => by
      unfold k0_t3_body
      simp only [Prog.lift, Prog.bind_op, Prog.bind_ret, Prog.pure_eq_ret]
      exact trip_run d L f g j.val _ (k0_off4_eq j) (k0_off4_inb j))) $$ [Hv Hm Ho H0 H1 Q3 Q4 Q5 HO]
  · isplitr; · iexact Hmw
    isplitl [Hv]; · iexact Hv
    isplitl [Hm]; · iexact Hm
    isplitl [Ho]; · iexact Ho
    isplitl [H0]; · iexact H0
    isplitl [H1]; · iexact H1
    isplitl [Q3]; · iexact Q3
    isplitl [Q4]; · iexact Q4
    isplitl [Q5]; · iexact Q5
    iexact HO
  iintro ⟨Hv, Hm, Ho, ⟨%f2, H0⟩, ⟨%g2, H1⟩, Q3, Q4, Q5, HO⟩
  have hO2 := hO1.put (k0_off3_inb L) inb_S8192_S1960_0 (e' := 83880 * wid L + 83880) (by rw [hoff3])
    (by show _ = _ + 1960; omega) (n := k0_t3_loop.trips) (by rw [trips3]; decide) f g
  by_cases hc : k0_cond1 L = 1#1
  · have h31 : wid L = 31 := (last_iff L).mp hc
    rw [dif_pos hc]
    simp only [k0_part1_eq_skeleton]; unfold k0_part1_skel
    simp only [Prog.lift, Prog.bind_assoc, Prog.bind_op, Prog.bind_ret, Prog.pure_eq_ret]
    iapply (window_run d L ![2684160] S194.size inb_S2684354_S194_2684160 inb_S8192_S194_0
      (wB_subset _ _ _ hw (by rw [h31]; decide) (.inr h31)) (by decide) k0_t4_loop.trips V M _ f2 g2 Ow _
      (fun f g => loop_run d L k0_t4_loop (k0_t4_ok L hc) _ f g fun j => by
        unfold k0_t4_body
        simp only [Prog.lift, Prog.bind_op, Prog.bind_ret, Prog.pure_eq_ret]
        exact trip_run d L f g j.val _ (k0_off5_eq j) (k0_off5_inb L j hc))) $$ [Hv Hm Ho H0 H1 Q6 Q7 Q8 HO]
    · isplitr; · iexact Hmw
      isplitl [Hv]; · iexact Hv
      isplitl [Hm]; · iexact Hm
      isplitl [Ho]; · iexact Ho
      isplitl [H0]; · iexact H0
      isplitl [H1]; · iexact H1
      isplitl [Q6]; · iexact Q6
      isplitl [Q7]; · iexact Q7
      isplitl [Q8]; · iexact Q8
      iexact HO
    iintro ⟨Hv, Hm, Ho, H0, H1, Q6, Q7, Q8, HO⟩
    have hO3 := hO2.put inb_S2684354_S194_2684160 inb_S8192_S194_0 (e' := 2684354) (by rw [h31]; rfl)
      (by rw [h31]; rfl) (n := k0_t4_loop.trips) (by rw [trips4]; decide) f2 g2
    ihave Ho' := (Entails.of_eq (oPts_done d L hO3 (by omega) fun _ => Nat.le_refl _)) $$ Ho
    rw [wp_ret]; imodintro
    isplitl [Hv]; · iexact Hv
    isplitl [Hm]; · iexact Hm
    isplitl [Ho']; · iexact Ho'
    isplitl [H0]; · iexact H0
    isplitl [H1]; · iexact H1
    isplitr [HO]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      iexact Q8
    iexact HO
  · have h31 : wid L ≠ 31 := fun h => hc ((last_iff L).mpr h)
    rw [dif_neg hc]
    simp only [Prog.bind_ret]
    ihave Ho' := (Entails.of_eq (oPts_done d L hO2 (Nat.le_refl _) fun h => absurd h h31)) $$ Ho
    rw [wp_ret]; imodintro
    isplitl [Hv]; · iexact Hv
    isplitl [Hm]; · iexact Hm
    isplitl [Ho']; · iexact Ho'
    isplitl [H0]; · iexists _; iexact H0
    isplitl [H1]; · iexists _; iexact H1
    isplitr [HO]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      iexact Q8
    iexact HO

end Task

end Cert.Proof.KernelIdeal

end
-- ==== Proof.KernelIdealRun.lean ====
/-
  The dropout kernel launched: the arrays cut into the tasks' shares, each task run (`task_run`), the shares put
  together again, and the program's run with the value of its result (`run_main`); the frame follows by dropping the
  value.
-/
module

public import proofs.«01_k».proof.Defs
public import proofs.«01_k».proof.Proof.KernelIdealTask
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.KernelIdeal

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the tasks are handed and hand back -/

/-- What the kernel leaves in the result on device `d`. -/
def res (d : Dev nD) : S2684354.Idx → F .f32 := fun x => kept (m (vLoc d) x) (m (mLoc d) x)

/-- Task `w`'s elements of the values and the mask as at launch, and of the result at `O`. -/
def share (d : Dev nD) (w : ℕ) (O : S2684354.Idx → F .f32) : sProp 𝕄 :=
  iprop((vLoc d ↦[span w]{fullShare} m (vLoc d)) ∗ (mLoc d ↦[span w]{fullShare} m (mLoc d)) ∗ oLoc d ↦[span w]{fullShare} O)

instance share_storable (d : Dev nD) (w : ℕ) (O : S2684354.Idx → F .f32) :
    BI.Storable (upEmb : UEmb _ 𝕄) (share m d w O) := by unfold share; infer_instance

/-- Each task is handed its share at launch contents and hands it back with the result's at `res`; a SparseCore is
    handed its tasks' shares together. -/
def P : (K (F := F)).Pay (nD := nD) (Val := Elt F) (Name := ℕ) (U := UU) where
  st := fun q d c => match q with
    | 0 => bigSep Finset.univ fun i : Fin ((K (F := F)).nSub 0) => share m d (2 * i.val + c.val) (m (oLoc d))
  dn := fun q d c => match q with
    | 0 => bigSep Finset.univ fun i : Fin ((K (F := F)).nSub 0) => share m d (2 * i.val + c.val) (res m d)
  go := fun q d c i => match q with | 0 => share m d (2 * i.val + c.val) (m (oLoc d))
  td := fun q d c i => match q with | 0 => share m d (2 * i.val + c.val) (res m d)
  x := fun _ _ => iprop(emp)

instance P_storable : (P (F := F) m).IsStorable where
  st q d c := match q with
    | 0 => (inferInstance : BI.Storable (upEmb : UEmb _ 𝕄)
        (bigSep Finset.univ fun i : Fin ((K (F := F)).nSub 0) => share m d (2 * i.val + c.val) (m (oLoc d))))
  dn q d c := match q with
    | 0 => (inferInstance : BI.Storable (upEmb : UEmb _ 𝕄)
        (bigSep Finset.univ fun i : Fin ((K (F := F)).nSub 0) => share m d (2 * i.val + c.val) (res m d)))
  go q d c i := match q with | 0 => share_storable m d (2 * i.val + c.val) (m (oLoc d))
  td q d c i := match q with | 0 => share_storable m d (2 * i.val + c.val) (res m d)

/-! ## A task from what it is handed -/

section Tile

variable (d : Dev nD) (L : grid0.Coords)

/-- The task's nine counters. -/
abbrev dcell (k : Fin 9) : GSem nD τ sig := (me d L, .dma (⟨k.val, k.isLt⟩ : DmaSem sig))

omit [FloatOps F] in
/-- The subcore's own counters at zero: the nine and the rest. -/
theorem ownSems0_V :
    (ownSems0 (me d L) : sProp 𝕄)
      = iprop((semZ d L cc0_scoped0.sem ∗ semZ d L cc0_scoped1.sem ∗ semZ d L cc0_scoped2.sem ∗ semZ d L cc0_scoped3.sem
          ∗ semZ d L cc0_scoped4.sem ∗ semZ d L cc0_scoped5.sem ∗ semZ d L cc0_scoped6.sem ∗ semZ d L cc0_scoped7.sem
          ∗ semZ d L cc0_scoped8.sem) ∗ bigSep (ownCells (me d L) \ Finset.univ.image (dcell d L)) fun g => semVal g 0) := by
  unfold SparseCore.Cfg.ownSems0
  rw [SparseCore.bigSep_sdiff_split' (t := Finset.univ.image (dcell d L)) (Finset.image_subset_iff.mpr fun k _ =>
      mem_ownCells.mpr ⟨rfl, (show ∀ s : DmaSem sig, (SemLoc.dma s : SemLoc sig).isScoped .scVector = true by decide) _⟩),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 9)) = {0, 1, 2, 3, 4, 5, 6, 7, 8} by decide]
  iterate 8 rw [SparseCore.bigSep_insert' (by decide)]
  rw [bigSep_singleton]
  rfl

omit [FloatOps F] in
/-- The subcore's own buffers: the two scratches, at some contents, and the rest. -/
theorem ownBufs_V :
    (ownBufs (me d L) : sProp 𝕄)
      = iprop((∃ f, s0Pts d L f) ∗ (∃ g, s1Pts d L g)
          ∗ bigSep (((ownRefs (τ := τ) (.scVector (cV L) (jV L))).erase ((Proc.scVector (cV L) (jV L)).devRef cc0_scratch0)).erase
              ((Proc.scVector (cV L) (jV L)).devRef cc0_scratch1)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]
  rfl

/-- The task at launch: from its share, to its share with the result's elements at `res`. -/
theorem tile_body (O : CellTallies nD τ sig (HIx 1)) (W : Waits sig (HIx 1)) (hO : ∀ g, O g none = 0) :
    iprop(levAts (K (F := F)).L (K (F := F)).lev ∗ emp ∗ share m d (wid L) (m (oLoc d))
        ∗ scopedBufs (me d L) ∗ scopedSems0 (me d L) ∗ owes (me d L) O W)
      ⊢ wp frame (wpE (defs₀ (F := F)) 𝒱₀ (me d L) none) Set.univ
          (cc0_dropout_k L (Memref.whole main_arg1_scv) (Memref.isWhole_whole _) (Memref.whole main_arg2_scv) (Memref.isWhole_whole _)
            (Memref.whole main_v0_scv) (Memref.isWhole_whole _) (Memref.whole cc0_scratch0) (Memref.isWhole_whole _)
            (Memref.whole cc0_scratch1) (Memref.isWhole_whole _)
            cc0_scoped0 cc0_scoped1 cc0_scoped2 cc0_scoped3 cc0_scoped4 cc0_scoped5 cc0_scoped6 cc0_scoped7 cc0_scoped8)
          fun _ => iprop(share m d (wid L) (res m d) ∗ scopedBufs (me d L) ∗ scopedSems0 (me d L)
            ∗ ∃ W', ⌜∀ p ∈ W', p ∈ W ∨ p.2 = none ∨ p.2 = some (0 : Fin 1)⌝ ∗ owes (me d L) O W') := by
  rw [(K (F := F)).scopedBufs_V facts d (cV L) (jV L), SparseCore.Cfg.scopedSems0_V (Val := Elt F) d (cV L) (jV L), ownSems0_V, ownBufs_V]
  unfold share
  iintro ⟨Hlv, -, ⟨Hv, Hm, Ho⟩, ⟨H0, H1, Hbufs⟩, ⟨HQ, Hsems⟩, HO⟩
  ihave Hmw := ((K (F := F)).mayWaits_none (thr := me d L) hO) $$ Hlv
  iapply (wp_wand_r Idealize.ShloMosaic.frame (wpE (defs₀ (F := F)) 𝒱₀ (me d L) none) Set.univ)
  isplitl [Hmw Hv Hm Ho H0 H1 HQ HO]
  · iapply (task_run (F := F) d L (m (vLoc d)) (m (mLoc d)) (m (oLoc d)) O)
    isplitl [Hmw]; · iexact Hmw
    isplitl [Hv]; · iexact Hv
    isplitl [Hm]; · iexact Hm
    isplitl [Ho]; · iexact Ho
    isplitl [H0]; · iexact H0
    isplitl [H1]; · iexact H1
    isplitl [HQ]; · iexact HQ
    iexists W; iexact HO
  iintro %_ ⟨Hv, Hm, Ho, H0, H1, HQ, %W', HO⟩
  isplitl [Hv Hm Ho]
  · isplitl [Hv]; · iexact Hv
    isplitl [Hm]; · iexact Hm
    iexact Ho
  isplitl [H0 H1 Hbufs]
  · isplitl [H0]; · iexact H0
    isplitl [H1]; · iexact H1
    iexact Hbufs
  isplitl [HQ Hsems]
  · isplitl [HQ]; · iexact HQ
    iexact Hsems
  iexists W'
  isplitr
  · ipureintro
    intro p _
    rcases hp : p.2 with _ | q
    · exact .inr (.inl rfl)
    · exact .inr (.inr (congrArg some (Subsingleton.elim q 0)))
  · iexact HO

end Tile

/-! ## The launch theorem's obligations -/

/-- The coordinates of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_dropout_k (coordsV c s)
          (Memref.whole main_arg1_scv) (Memref.isWhole_whole _) (Memref.whole main_arg2_scv) (Memref.isWhole_whole _)
          (Memref.whole main_v0_scv) (Memref.isWhole_whole _) (Memref.whole cc0_scratch0) (Memref.isWhole_whole _)
          (Memref.whole cc0_scratch1) (Memref.isWhole_whole _)
          cc0_scoped0 cc0_scoped1 cc0_scoped2 cc0_scoped3 cc0_scoped4 cc0_scoped5 cc0_scoped6 cc0_scoped7 cc0_scoped8) ⟨⟩ c s := rfl

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_body m d (coordsV ⟨_, hc.1⟩ ⟨_, hc.2⟩) O W hO

theorem vecSplit : (K (F := F)).VecSplit' (P m) 0 := by
  intro d c
  show (bigSep Finset.univ fun i : Fin ((K (F := F)).nSub 0) => share m d (2 * i.val + c.val) (m (oLoc d))) ⊢ |={Set.univ}=> iprop(
      (bigSep Finset.univ fun i : Fin ((K (F := F)).nSub 0) => share m d (2 * i.val + c.val) (m (oLoc d)))
      ∗ ((bigSep Finset.univ fun i : Fin ((K (F := F)).nSub 0) => share m d (2 * i.val + c.val) (res m d))
          -∗ bigSep Finset.univ fun i : Fin ((K (F := F)).nSub 0) => share m d (2 * i.val + c.val) (res m d)))
  iintro H; imodintro
  isplitl [H]; · iexact H
  iintro H; iexact H

/-! ## The arrays as the tasks' shares -/

/-- The elements of the task on subcore `p.2` of SparseCore `p.1`. -/
abbrev taskSet (p : Fin 2 × Fin 16) : Finset S2684354.Idx := span (2 * p.2.val + p.1.val)

theorem tasks_disjoint : ∀ p ∈ (Finset.univ : Finset (Fin 2 × Fin 16)), ∀ q ∈ (Finset.univ : Finset (Fin 2 × Fin 16)), p ≠ q →
    Disjoint (taskSet p) (taskSet q) := fun p _ q _ h => span_disjoint fun e => h (by
  have := p.1.isLt; have := q.1.isLt
  exact Prod.ext (Fin.ext (by omega)) (Fin.ext (by omega)))

theorem tasks_cover : (Finset.univ : Finset (Fin 2 × Fin 16)).biUnion taskSet = Finset.univ :=
  Finset.eq_univ_of_forall fun x => by
    have hx := Nat.min_le_right ((x 0).val / 83880) 31
    refine Finset.mem_biUnion.mpr ⟨(⟨min ((x 0).val / 83880) 31 % 2, by omega⟩, ⟨min ((x 0).val / 83880) 31 / 2, by omega⟩),
      Finset.mem_univ _, mem_span.mpr ?_⟩
    show _ = 2 * (_ / 2) + _ % 2
    omega

omit [FloatOps F] in
theorem vPts_tasks (d : Dev nD) (f : Buf (Elt F) (vLoc d)) :
    (bigSep Finset.univ fun c : Fin 2 => bigSep Finset.univ fun i : Fin 16 => vLoc d ↦[span (2 * i.val + c.val)]{fullShare} f)
      = (vLoc d ↦{fullShare} f : sProp 𝕄) := by
  rw [← bigSep_univ_prod (fun p : Fin 2 × Fin 16 => (vLoc d ↦[taskSet p]{fullShare} f : sProp 𝕄)),
    ← pointsTo_biUnion Finset.univ (ℓ := vLoc d) taskSet tasks_disjoint, tasks_cover]; try rfl
omit [FloatOps F] in
theorem mPts_tasks (d : Dev nD) (f : Buf (Elt F) (mLoc d)) :
    (bigSep Finset.univ fun c : Fin 2 => bigSep Finset.univ fun i : Fin 16 => mLoc d ↦[span (2 * i.val + c.val)]{fullShare} f)
      = (mLoc d ↦{fullShare} f : sProp 𝕄) := by
  rw [← bigSep_univ_prod (fun p : Fin 2 × Fin 16 => (mLoc d ↦[taskSet p]{fullShare} f : sProp 𝕄)),
    ← pointsTo_biUnion Finset.univ (ℓ := mLoc d) taskSet tasks_disjoint, tasks_cover]; try rfl
omit [FloatOps F] in
theorem oPts_tasks (d : Dev nD) (f : Buf (Elt F) (oLoc d)) :
    (bigSep Finset.univ fun c : Fin 2 => bigSep Finset.univ fun i : Fin 16 => oLoc d ↦[span (2 * i.val + c.val)]{fullShare} f)
      = (oLoc d ↦{fullShare} f : sProp 𝕄) := by
  rw [← bigSep_univ_prod (fun p : Fin 2 × Fin 16 => (oLoc d ↦[taskSet p]{fullShare} f : sProp 𝕄)),
    ← pointsTo_biUnion Finset.univ (ℓ := oLoc d) taskSet tasks_disjoint, tasks_cover]; try rfl

/-- The shares of all tasks are the three arrays. -/
theorem shares_eq (d : Dev nD) (O : S2684354.Idx → F .f32) :
    (bigSep Finset.univ fun c : Fin 2 => bigSep Finset.univ fun i : Fin 16 => share m d (2 * i.val + c.val) O)
      = iprop((vLoc d ↦{fullShare} m (vLoc d)) ∗ (mLoc d ↦{fullShare} m (mLoc d)) ∗ oLoc d ↦{fullShare} O) := by
  unfold share
  simp only [bigSep_sep']
  rw [vPts_tasks, mPts_tasks, oPts_tasks]

theorem st0_eq (d : Dev nD) : (bigSep Finset.univ fun c : Fin ((K (F := F)).nCore 0) => (P m).st 0 d c)
    = iprop((vLoc d ↦{fullShare} m (vLoc d)) ∗ (mLoc d ↦{fullShare} m (mLoc d)) ∗ oLoc d ↦{fullShare} m (oLoc d)) :=
  shares_eq m d (m (oLoc d))
theorem dn0_eq (d : Dev nD) : (bigSep Finset.univ fun c : Fin ((K (F := F)).nCore 0) => (P m).dn 0 d c)
    = iprop((vLoc d ↦{fullShare} m (vLoc d)) ∗ (mLoc d ↦{fullShare} m (mLoc d)) ∗ oLoc d ↦{fullShare} res m d) :=
  shares_eq m d (res m d)

/-! ## The ghost state at launch -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The program on the TensorCore -/

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (vLoc d ↦{fullShare} W main_arg1)
      ∗ (mLoc d ↦{fullShare} W main_arg2) ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

/-- What the program ends with on device `d`: its arguments at their launch contents, its result at `res`. -/
abbrev FIN (d : Dev nD) : sProp 𝕄 := iprop((aLoc d ↦{fullShare} m (aLoc d)) ∗ (vLoc d ↦{fullShare} m (vLoc d))
  ∗ (mLoc d ↦{fullShare} m (mLoc d)) ∗ oLoc d ↦{fullShare} res m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hv, Hm, Ho⟩, Hts, -⟩, -⟩
  iapply ((K (F := F)).wp_run (D (F := F)) 𝒱 (EH := EH) (P := P m) κ d 0) $$ [Hst Ha Hv Hm Ho Hb Hts]
  isplitr; · iexact Hctx
  isplitl [Hst]; · iexact Hst
  isplitl [Hv Hm Ho]
  · rw [st0_eq]
    isplitl [Hv]; · iexact Hv
    isplitl [Hm]; · iexact Hm
    iexact Ho
  iintro ⟨Hst, Hdn⟩
  ihave Hdn' := (Entails.of_eq (dn0_eq m d)) $$ Hdn
  icases Hdn' with ⟨Hv, Hm, Ho⟩
  imodintro
  isplitl [Hst]; · iexact Hst
  isplitr [Hb Hts]
  · isplitl [Ha]; · iexact Ha
    isplitl [Hv]; · iexact Hv
    isplitl [Hm]; · iexact Hm
    iexact Ho
  isplitl [Hb] <;> iassumption

/-- What the program's end says of the memory of device `d`. -/
def fq (d : Dev nD) (s' : Phys nD τ sig (Elt F)) : Prop :=
  s'.mem.mem (aLoc d) = m (aLoc d) ∧ s'.mem.mem (vLoc d) = m (vLoc d) ∧ s'.mem.mem (mLoc d) = m (mLoc d) ∧ s'.mem.mem (oLoc d) = res m d

theorem hfin (d : Dev nD) (s' : Phys nD τ sig (Elt F)) : iprop(FIN m d ∗ SI s') ⊢ (⌜fq m d s'⌝ : sProp 𝕄) := by
  iintro ⟨⟨Ha, Hv, Hm, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := vLoc d) (I := Finset.univ) (q := fullShare) (f := m (vLoc d)))) $$ [HSI Hv]
  · isplitl [HSI] <;> iassumption
  icases H with ⟨%h2, HSI, -⟩
  ihave H := (persistent_entails_right (SI_pointsTo_agree (st := s') (ℓ := mLoc d) (I := Finset.univ) (q := fullShare) (f := m (mLoc d)))) $$ [HSI Hm]
  · isplitl [HSI] <;> iassumption
  icases H with ⟨%h3, HSI, -⟩
  ihave H := (SI_pointsTo_agree (st := s') (ℓ := oLoc d) (I := Finset.univ) (q := fullShare) (f := res m d)) $$ [HSI Ho]
  · isplitl [HSI] <;> iassumption
  icases H with %h4
  ipureintro
  exact ⟨funext fun i => h1 i (Finset.mem_univ i), funext fun i => h2 i (Finset.mem_univ i),
    funext fun i => h3 i (Finset.mem_univ i), funext fun i => h4 i (Finset.mem_univ i)⟩

/-! ## The program's run -/

/-- The arguments end as they began, the result at `res`, and every counter at zero. -/
def QC : PUnit × MemSt nD τ sig (Elt F) → Prop := fun r =>
  (∀ c : Dev nD, r.2.mem (aLoc c) = m (aLoc c) ∧ r.2.mem (vLoc c) = m (vLoc c) ∧ r.2.mem (mLoc c) = m (mLoc c) ∧ r.2.mem (oLoc c) = res m c)
    ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.Equation.lean ====
/-
  The reference's value over the extended reals, element by element: the value times the mask's zero or one, divided by
  one half, is the kernel's doubled value or zero.
-/
module

public import proofs.«01_k».proof.Proof.KernelIdealValue
public import Idealize.ShloMosaic.PureOps.Ideal

@[expose] public section

noncomputable section

namespace Cert.Proof.KernelIdeal

open Idealize.ShloMosaic

/-- The word of one half, -/
theorem half_word : Ideal.ofBits .f32 0x3F000000#32 = (((1 / 2 : ℝ)) : EReal) := by
  simp only [Ideal.ofBits, Ideal.ieee]
  rw [show (BitVec.extractLsb' 23 8 (0x3F000000#32 : BitVec 32)).toNat = 126 by decide,
    show (BitVec.extractLsb' 0 23 (0x3F000000#32 : BitVec 32)).toNat = 0 by decide,
    show (BitVec.extractLsb' (8 + 23) 1 (0x3F000000#32 : BitVec 32) == 1#1) = false by decide]
  norm_num
/-- of two, -/
theorem two_word : Ideal.ofBits .f32 0x40000000#32 = ((2 : ℝ) : EReal) := by
  simp only [Ideal.ofBits, Ideal.ieee]
  rw [show (BitVec.extractLsb' 23 8 (0x40000000#32 : BitVec 32)).toNat = 128 by decide,
    show (BitVec.extractLsb' 0 23 (0x40000000#32 : BitVec 32)).toNat = 0 by decide,
    show (BitVec.extractLsb' (8 + 23) 1 (0x40000000#32 : BitVec 32) == 1#1) = false by decide]
  norm_num
/-- and of zero, read as extended reals. -/
theorem zero_word : Ideal.ofBits .f32 0x00000000#32 = (0 : EReal) := by
  simp [Ideal.ofBits, Ideal.ieee]

/-- Division by one half is multiplication by two, at the infinities too. -/
theorem div_half (x : EReal) : Ideal.div x ((1 / 2 : ℝ) : EReal) = x * ((2 : ℝ) : EReal) := by
  have h : ((1 / 2 : ℝ) : EReal) ≠ 0 := by norm_cast; norm_num
  rw [Ideal.div, if_neg h, ← EReal.coe_inv]
  norm_num

/-- A bit as an extended real times `x`, over one half: twice `x` at one, zero at zero. -/
theorem keep_div (x : EReal) (b : BitVec 1) :
    Ideal.div (x * ((b.toNat : ℝ) : EReal)) ((1 / 2 : ℝ) : EReal) = if b = 1#1 then x * ((2 : ℝ) : EReal) else 0 := by
  rw [div_half]
  rcases (by decide : ∀ b : BitVec 1, b = 0#1 ∨ b = 1#1) b with rfl | rfl
  · simp
  · simp

/-- The reference's element is the kernel's. -/
theorem ref_elem (x u : Ideal .f32) :
    Ideal.div (x * (((Ideal.cmp .oge u (Ideal.ofBits .f32 0x3F000000#32)).toNat : ℝ) : EReal)) (Ideal.ofBits .f32 0x3F000000#32)
      = kept (F := Ideal) x u := by
  have h : kept (F := Ideal) x u
      = if Ideal.cmp .oge u (Ideal.ofBits .f32 0x3F000000#32) = 1#1 then x * Ideal.ofBits .f32 0x40000000#32
        else Ideal.ofBits .f32 0x00000000#32 := rfl
  rw [h, two_word, zero_word]
  conv_lhs => arg 2; rw [half_word]
  exact keep_div x _

end Cert.Proof.KernelIdeal

end
-- ==== Proof.lean ====
module

public import proofs.«01_k».proof.Defs
public import proofs.«01_k».proof.Proof.KernelRun
public import proofs.«01_k».proof.Proof.KernelIdealRun
public import proofs.«01_k».proof.Proof.Equation
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel as printed runs, keeps its arguments and leaves every counter at zero. -/
theorem frame_p : Cert.quiescent_Kernel := fun m g _ =>
  (θ_run Cert.Kernel.defs _ _).mono (fun _ h => ⟨fun c => ⟨(h.1 c).1, (h.1 c).2.1, (h.1 c).2.2.1⟩, h.2⟩)
    (Cert.Proof.Kernel.run_main (F := Bits) m g)

/-- So does the kernel over the extended reals, -/
theorem frame_pi : Cert.quiescent_KernelIdeal := fun m g _ =>
  (θ_run Cert.KernelIdeal.defs _ _).mono (fun _ h => ⟨fun c => ⟨(h.1 c).1, (h.1 c).2.1, (h.1 c).2.2.1⟩, h.2⟩)
    (Cert.Proof.KernelIdeal.run_main (F := Ideal) m g)

/-- and the reference, which has no counter. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals the kernel's result is the reference's, at every element. -/
theorem value : Cert.algebraic_KernelIdeal_ReferenceIdeal := by
  intro m g m' g' _ hagree
  refine ⟨fun c => Cert.Proof.KernelIdeal.res m c,
    (θ_run Cert.KernelIdeal.defs _ _).mono (fun _ h c => ⟨(h.1 c).2.2.2, (h.1 c).1, (h.1 c).2.1, (h.1 c).2.2.1⟩)
      (Cert.Proof.KernelIdeal.run_main (F := Ideal) m g), ?_⟩
  refine (θ_run Cert.ReferenceIdeal.defs _ _).mono (fun r h c => ⟨(h c).1.trans ?_, (h c).2⟩)
    (Cert.ReferenceIdeal.Value.run (F := Ideal) m' g')
  rw [(hagree c).2.1, (hagree c).2.2]
  funext x
  exact Cert.Proof.KernelIdeal.ref_elem _ _

theorem claim : Cert.Claim :=
  ⟨Cert.Kernel.Gen.facts, Cert.KernelIdeal.Gen.facts, Cert.ReferenceIdeal.Gen.facts, frame_p, frame_pi, frame_ri, trivial, value⟩

end Cert.Proof

end
